-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_deployed [hPre_deployed : Cert.Pre_deployed.Facts] (m : (ℓ : Loc Cert.KernelIdeal.nD Cert.KernelIdeal.τ Cert.KernelIdeal.sig) → Buf (Elt Ideal) ℓ) : Prop :=
  ∀ c : Dev Cert.KernelIdeal.nD,
    (Cert.Pre_deployed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_deployed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_deployed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_deployed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_deployed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_deployed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_deployed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_deployed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_deployed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_deployed [hPre_deployed : Cert.Pre_deployed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_deployed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_deployed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_deployed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_deployed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_deployed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_deployed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_deployed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_deployed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_deployed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_deployed [hKernelIdeal : Cert.KernelIdeal.Facts] [hPre_deployed : Cert.Pre_deployed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_deployed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_deployed [hReferenceIdeal : Cert.ReferenceIdeal.Facts] [hPre_deployed : Cert.Pre_deployed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_deployed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_deployed [hKernelIdeal : Cert.KernelIdeal.Facts] [hReferenceIdeal : Cert.ReferenceIdeal.Facts] [hPre_deployed : Cert.Pre_deployed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_deployed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_deployed : Cert.Pre_deployed.Facts),
    quiescent_Kernel (hKernel := hKernel)
    ∧ quiescent_KernelIdeal (hKernelIdeal := hKernelIdeal)
    ∧ quiescent_KernelIdeal_pre_deployed (hKernelIdeal := hKernelIdeal) (hPre_deployed := hPre_deployed)
    ∧ quiescent_ReferenceIdeal (hReferenceIdeal := hReferenceIdeal)
    ∧ quiescent_ReferenceIdeal_pre_deployed (hReferenceIdeal := hReferenceIdeal) (hPre_deployed := hPre_deployed)
    ∧ preserves_Kernel_KernelIdeal
    ∧ algebraic_KernelIdeal_ReferenceIdeal_pre_deployed (hKernelIdeal := hKernelIdeal) (hReferenceIdeal := hReferenceIdeal) (hPre_deployed := hPre_deployed)
-- ==== Pre_deployed.lean ====
abbrev S16384x128 : Shape := ⟨2, ![16384, 128]⟩
abbrev S16385 : Shape := ⟨1, ![16385]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S16384 : Shape := ⟨1, ![16384]⟩
abbrev S_ : Shape := ⟨0, ![]⟩

class Facts : Prop where
  slices_S16385_S16384_1 : S16385.Slices ![1] S16384
  slices_S16385_S16384_0 : S16385.Slices ![0] S16384
  bcast_S_S16384 : S_.BroadcastsInDim S16384 (![] : Fin 0 → Fin S16384.rank)
  bcast_S_S128 : S_.BroadcastsInDim S128 (![] : Fin 0 → Fin S128.rank)
  bcast_S_S64 : S_.BroadcastsInDim S64 (![] : Fin 0 → Fin S64.rank)
  bcast_S_S16384x128 : S_.BroadcastsInDim S16384x128 (![] : Fin 0 → Fin S16384x128.rank)
  bcast_S_S128x128 : S_.BroadcastsInDim S128x128 (![] : Fin 0 → Fin S128x128.rank)
  bcast_S_S128x64 : S_.BroadcastsInDim S128x64 (![] : Fin 0 → Fin S128x64.rank)
  bcast_S_S64x64 : S_.BroadcastsInDim S64x64 (![] : Fin 0 → Fin S64x64.rank)

variable [Facts]

def fn_part1 {F : FTy → Type} [FloatOps F] (main_arg5 : FVec F S128x128 .f32) (main_arg7 : FVec F S128x64 .f32) (main_arg9 : FVec F S64x64 .f32) (main_v4 : IVec S16384 1) (main_v9 : IVec S16384 1) (main_v11 : IVec S128 1) (main_v13 : IVec S64 1) (main_v16 : IVec S16384x128 1) (main_v17 : FVec F S16384x128 .f32) (main_cst_3 : FVec F S_ .f32) : IVec S16384 1 × IVec S16384 1 × IVec S128 1 × IVec S64 1 × IVec S16384x128 1 × IVec S16384x128 1 × IVec S128x128 1 × IVec S128x64 1 × IVec S64x64 1 :=
  let main_v18 : FVec F S16384x128 .f32 := broadcastInDim S16384x128 ![] bcast_S_S16384x128 main_cst_3
  let main_v19 : IVec S16384x128 1 := cmpf .olt main_v17 main_v18
  let main_v20 : FVec F S128x128 .f32 := Host.absf main_arg5
  let main_cst_4 : FVec F S_ .f32 := constant S_ .f32 0x7F800000#32
  let main_v21 : FVec F S128x128 .f32 := broadcastInDim S128x128 ![] bcast_S_S128x128 main_cst_4
  let main_v22 : IVec S128x128 1 := cmpf .olt main_v20 main_v21
  let main_v23 : FVec F S128x64 .f32 := Host.absf main_arg7
  let main_cst_5 : FVec F S_ .f32 := constant S_ .f32 0x7F800000#32
  let main_v24 : FVec F S128x64 .f32 := broadcastInDim S128x64 ![] bcast_S_S128x64 main_cst_5
  let main_v25 : IVec S128x64 1 := cmpf .olt main_v23 main_v24
  let main_v26 : FVec F S64x64 .f32 := Host.absf main_arg9
  let main_cst_6 : FVec F S_ .f32 := constant S_ .f32 0x7F800000#32
  let main_v27 : FVec F S64x64 .f32 := broadcastInDim S64x64 ![] bcast_S_S64x64 main_cst_6
  let main_v28 : IVec S64x64 1 := cmpf .olt main_v26 main_v27
  (main_v4, main_v9, main_v11, main_v13, main_v16, main_v19, main_v22, main_v25, main_v28)

def fn {F : FTy → Type} [FloatOps F] (main_arg0 : FVec F S16384x128 .f32) (main_arg1 : FVec F S16384x128 .f32) (main_arg2 : FVec F S16384x128 .f32) (main_arg3 : IVec S16385 32) (main_arg4 : IVec S16385 32) (main_arg5 : FVec F S128x128 .f32) (main_arg6 : FVec F S128 .f32) (main_arg7 : FVec F S128x64 .f32) (main_arg8 : FVec F S64 .f32) (main_arg9 : FVec F S64x64 .f32) : IVec S16384 1 × IVec S16384 1 × IVec S128 1 × IVec S64 1 × IVec S16384x128 1 × IVec S16384x128 1 × IVec S128x128 1 × IVec S128x64 1 × IVec S64x64 1 :=
  let main_v0 : IVec S16384 32 := (extractStridedSlice S16384 ![1] · slices_S16385_S16384_1) main_arg3
  let main_v1 : IVec S16384 32 := (extractStridedSlice S16384 ![0] · slices_S16385_S16384_0) main_arg3
  let main_v2 : IVec S16384 32 := subi main_v0 main_v1
  let main_c : IVec S_ 32 := constantI S_ 32 1#32
  let main_v3 : IVec S16384 32 := broadcastInDim S16384 ![] bcast_S_S16384 main_c
  let main_v4 : IVec S16384 1 := cmpi .eq main_v2 main_v3
  let main_v5 : IVec S16384 32 := (extractStridedSlice S16384 ![1] · slices_S16385_S16384_1) main_arg4
  let main_v6 : IVec S16384 32 := (extractStridedSlice S16384 ![0] · slices_S16385_S16384_0) main_arg4
  let main_v7 : IVec S16384 32 := subi main_v5 main_v6
  let main_c_0 : IVec S_ 32 := constantI S_ 32 1#32
  let main_v8 : IVec S16384 32 := broadcastInDim S16384 ![] bcast_S_S16384 main_c_0
  let main_v9 : IVec S16384 1 := cmpi .eq main_v7 main_v8
  let main_cst : FVec F S_ .f32 := constant S_ .f32 0x00000000#32
  let main_v10 : FVec F S128 .f32 := broadcastInDim S128 ![] bcast_S_S128 main_cst
  let main_v11 : IVec S128 1 := cmpf .oeq main_arg6 main_v10
  let main_cst_1 : FVec F S_ .f32 := constant S_ .f32 0x00000000#32
  let main_v12 : FVec F S64 .f32 := broadcastInDim S64 ![] bcast_S_S64 main_cst_1
  let main_v13 : IVec S64 1 := cmpf .oeq main_arg8 main_v12
  let main_v14 : FVec F S16384x128 .f32 := Host.absf main_arg1
  let main_cst_2 : FVec F S_ .f32 := constant S_ .f32 0x7F800000#32
  let main_v15 : FVec F S16384x128 .f32 := broadcastInDim S16384x128 ![] bcast_S_S16384x128 main_cst_2
  let main_v16 : IVec S16384x128 1 := cmpf .olt main_v14 main_v15
  let main_v17 : FVec F S16384x128 .f32 := Host.absf main_arg2
  let main_cst_3 : FVec F S_ .f32 := constant S_ .f32 0x7F800000#32
  fn_part1 (F := F) main_arg5 main_arg7 main_arg9 main_v4 main_v9 main_v11 main_v13 main_v16 main_v17 main_cst_3
-- ==== Kernel.lean ====
abbrev S16384x128 : Shape := ⟨2, ![16384, 128]⟩
abbrev S16385 : Shape := ⟨1, ![16385]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x128 : Shape := ⟨2, ![1, 128]⟩
abbrev S1x64 : Shape := ⟨2, ![1, 64]⟩
abbrev S1x1 : Shape := ⟨2, ![1, 1]⟩
abbrev S4096x128 : Shape := ⟨2, ![4096, 128]⟩
abbrev S2x32x128 : Shape := ⟨3, ![2, 32, 128]⟩
abbrev S4096x64 : Shape := ⟨2, ![4096, 64]⟩
abbrev S32x128x64 : Shape := ⟨3, ![32, 128, 64]⟩
abbrev S32x128 : Shape := ⟨2, ![32, 128]⟩
abbrev S1x32x128 : Shape := ⟨3, ![1, 32, 128]⟩
abbrev S1 : Shape := ⟨1, ![1]⟩
abbrev S1x1x1 : Shape := ⟨3, ![1, 1, 1]⟩
abbrev S_ : Shape := ⟨0, ![]⟩

abbrev nBuf : Space → Nat
  | .hbm => 14
  | .vmem => 12
  | .smem => 1
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x128, .f32⟩
  | .hbm, ⟨3, _⟩ => ⟨S16385, .i32⟩
  | .hbm, ⟨4, _⟩ => ⟨S16385, .i32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S1x128, .f32⟩
  | .hbm, ⟨11, _⟩ => ⟨S1x64, .f32⟩
  | .hbm, ⟨12, _⟩ => ⟨S1x1, .f32⟩
  | .hbm, ⟨13, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S128x128, .f32⟩
  | .local _ .vmem, ⟨7, _⟩ => ⟨S1x128, .f32⟩
  | .local _ .vmem, ⟨8, _⟩ => ⟨S128x64, .f32⟩
  | .local _ .vmem, ⟨9, _⟩ => ⟨S1x64, .f32⟩
  | .local _ .vmem, ⟨10, _⟩ => ⟨S64x64, .f32⟩
  | .local _ .vmem, ⟨11, _⟩ => ⟨S2x32x128, .f32⟩
  | .local _ .smem, ⟨0, _⟩ => ⟨S1x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S16384x128 : Shape := ⟨2, ![16384, 128]⟩
abbrev S16385 : Shape := ⟨1, ![16385]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x128 : Shape := ⟨2, ![1, 128]⟩
abbrev S_ : Shape := ⟨0, ![]⟩
abbrev S16384x64 : Shape := ⟨2, ![16384, 64]⟩
abbrev S1x64 : Shape := ⟨2, ![1, 64]⟩
abbrev S16384 : Shape := ⟨1, ![16384]⟩
abbrev S1 : Shape := ⟨1, ![1]⟩
abbrev S16383 : Shape := ⟨1, ![16383]⟩
abbrev S16384x1 : Shape := ⟨2, ![16384, 1]⟩
abbrev S1x1 : Shape := ⟨2, ![1, 1]⟩

abbrev nBuf : Space → Nat
  | .hbm => 204
  | .vmem => 0
  | .smem => 0
  | _ => 0

abbrev hbmTy0_0 (i : Nat) : BufTy := match i % 128 with
  | 0 => ⟨S16384x128, .f32⟩
  | 1 => ⟨S16384x128, .f32⟩
  | 2 => ⟨S16384x128, .f32⟩
  | 3 => ⟨S16385, .i32⟩
  | 4 => ⟨S16385, .i32⟩
  | 5 => ⟨S128x128, .f32⟩
  | 6 => ⟨S128, .f32⟩
  | 7 => ⟨S128x64, .f32⟩
  | 8 => ⟨S64, .f32⟩
  | 9 => ⟨S64x64, .f32⟩
  | 10 => ⟨S16384x128, .f32⟩
  | 11 => ⟨S1x128, .f32⟩
  | 12 => ⟨S16384x128, .f32⟩
  | 13 => ⟨S16384x128, .f32⟩
  | 14 => ⟨S_, .f32⟩
  | 15 => ⟨S16384x128, .f32⟩
  | 16 => ⟨S16384x128, .f32⟩
  | 17 => ⟨S16384x64, .f32⟩
  | 18 => ⟨S1x64, .f32⟩
  | 19 => ⟨S16384x64, .f32⟩
  | 20 => ⟨S16384x64, .f32⟩
  | 21 => ⟨S16384, .i32⟩
  | 22 => ⟨S16384, .i32⟩
  | 23 => ⟨S16384, .i32⟩
  | 24 => ⟨S1, .i32⟩
  | 25 => ⟨S16383, .i32⟩
  | 26 => ⟨S16384, .i32⟩
  | 27 => ⟨S_, .i32⟩
  | 28 => ⟨S1, .i32⟩
  | 29 => ⟨S_, .i32⟩
  | 30 => ⟨S16384, .i32⟩
  | 31 => ⟨S_, .i32⟩
  | 32 => ⟨S_, .i32⟩
  | 33 => ⟨S16384, .i32⟩
  | 34 => ⟨S_, .i32⟩
  | 35 => ⟨S16384, .i32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S_, .i32⟩
  | 45 => ⟨S16384, .i32⟩
  | 46 => ⟨S16384, .i32⟩
  | 47 => ⟨S_, .i32⟩
  | 48 => ⟨S_, .i32⟩
  | 49 => ⟨S16384, .i32⟩
  | 50 => ⟨S_, .i32⟩
  | 51 => ⟨S16384, .i32⟩
  | 52 => ⟨S16384, .i32⟩
  | 53 => ⟨S_, .i32⟩
  | 54 => ⟨S16384, .i32⟩
  | 55 => ⟨S16384, .i1⟩
  | 56 => ⟨S_, .i32⟩
  | 57 => ⟨S16384, .i32⟩
  | 58 => ⟨S16384, .i32⟩
  | 59 => ⟨S16384, .i32⟩
  | 60 => ⟨S16384x1, .i32⟩
  | 61 => ⟨S1, .i32⟩
  | 62 => ⟨S_, .i32⟩
  | 63 => ⟨S16384x1, .i32⟩
  | 64 => ⟨S16384x1, .i1⟩
  | 65 => ⟨S1x1, .i32⟩
  | 66 => ⟨S16384x1, .i32⟩
  | 67 => ⟨S16384x1, .i1⟩
  | 68 => ⟨S16384x1, .i1⟩
  | 69 => ⟨S_, .i1⟩
  | 70 => ⟨S16384, .i1⟩
  | 71 => ⟨S16384x64, .f32⟩
  | 72 => ⟨S16384x64, .i1⟩
  | 73 => ⟨S_, .f32⟩
  | 74 => ⟨S16384x64, .f32⟩
  | 75 => ⟨S16384x64, .f32⟩
  | 76 => ⟨S16384, .i32⟩
  | 77 => ⟨S16384, .i32⟩
  | 78 => ⟨S16384, .i32⟩
  | 79 => ⟨S1, .i32⟩
  | 80 => ⟨S16383, .i32⟩
  | 81 => ⟨S16384, .i32⟩
  | 82 => ⟨S_, .i32⟩
  | 83 => ⟨S1, .i32⟩
  | 84 => ⟨S_, .i32⟩
  | 85 => ⟨S16384, .i32⟩
  | 86 => ⟨S_, .i32⟩
  | 87 => ⟨S_, .i32⟩
  | 88 => ⟨S16384, .i32⟩
  | 89 => ⟨S_, .i32⟩
  | 90 => ⟨S16384, .i32⟩
  | 91 => ⟨S_, .i32⟩
  | 92 => ⟨S16384, .i32⟩
  | 93 => ⟨S16384, .i1⟩
  | 94 => ⟨S_, .i32⟩
  | 95 => ⟨S16384, .i32⟩
  | 96 => ⟨S16384, .i32⟩
  | 97 => ⟨S16384, .i32⟩
  | 98 => ⟨S16384x1, .i32⟩
  | 99 => ⟨S_, .i32⟩
  | 100 => ⟨S16384, .i32⟩
  | 101 => ⟨S16384, .i32⟩
  | 102 => ⟨S_, .i32⟩
  | 103 => ⟨S_, .i32⟩
  | 104 => ⟨S16384, .i32⟩
  | 105 => ⟨S_, .i32⟩
  | 106 => ⟨S16384, .i32⟩
  | 107 => ⟨S16384, .i32⟩
  | 108 => ⟨S_, .i32⟩
  | 109 => ⟨S16384, .i32⟩
  | 110 => ⟨S16384, .i1⟩
  | 111 => ⟨S_, .i32⟩
  | 112 => ⟨S16384, .i32⟩
  | 113 => ⟨S16384, .i32⟩
  | 114 => ⟨S16384, .i32⟩
  | 115 => ⟨S16384x1, .i32⟩
  | 116 => ⟨S1, .i32⟩
  | 117 => ⟨S_, .i32⟩
  | 118 => ⟨S16384x1, .i32⟩
  | 119 => ⟨S16384x1, .i1⟩
  | 120 => ⟨S1x1, .i32⟩
  | 121 => ⟨S16384x1, .i32⟩
  | 122 => ⟨S16384x1, .i1⟩
  | 123 => ⟨S16384x1, .i1⟩
  | 124 => ⟨S_, .i1⟩
  | 125 => ⟨S16384, .i1⟩
  | 126 => ⟨S16384x64, .f32⟩
  | 127 => ⟨S16384x64, .i1⟩
  | _ => ⟨S16384x128, .f32⟩

abbrev hbmTy0_1 (i : Nat) : BufTy := match i % 128 with
  | 0 => ⟨S_, .f32⟩
  | 1 => ⟨S16384x64, .f32⟩
  | 2 => ⟨S16384x64, .f32⟩
  | 3 => ⟨S16384x128, .f32⟩
  | 4 => ⟨S1x128, .f32⟩
  | 5 => ⟨S16384x128, .f32⟩
  | 6 => ⟨S16384x128, .f32⟩
  | 7 => ⟨S_, .f32⟩
  | 8 => ⟨S16384x128, .f32⟩
  | 9 => ⟨S16384x128, .f32⟩
  | 10 => ⟨S16384x64, .f32⟩
  | 11 => ⟨S1x64, .f32⟩
  | 12 => ⟨S16384x64, .f32⟩
  | 13 => ⟨S16384x64, .f32⟩
  | 14 => ⟨S16384x128, .f32⟩
  | 15 => ⟨S1x128, .f32⟩
  | 16 => ⟨S16384x128, .f32⟩
  | 17 => ⟨S16384x128, .f32⟩
  | 18 => ⟨S_, .f32⟩
  | 19 => ⟨S16384x128, .f32⟩
  | 20 => ⟨S16384x128, .f32⟩
  | 21 => ⟨S16384x64, .f32⟩
  | 22 => ⟨S1x64, .f32⟩
  | 23 => ⟨S16384x64, .f32⟩
  | 24 => ⟨S16384x64, .f32⟩
  | 25 => ⟨S16384x64, .f32⟩
  | 26 => ⟨S16384x64, .f32⟩
  | 27 => ⟨S_, .f32⟩
  | 28 => ⟨S16384, .f32⟩
  | 29 => ⟨S16384x64, .f32⟩
  | 30 => ⟨S16384x64, .f32⟩
  | 31 => ⟨S_, .f32⟩
  | 32 => ⟨S16384, .f32⟩
  | 33 => ⟨S16384, .f32⟩
  | 34 => ⟨S_, .f32⟩
  | 35 => ⟨S16384, .f32⟩
  | 36 => ⟨S16384, .f32⟩
  | 37 => ⟨S16384, .f32⟩
  | 38 => ⟨S16384, .f32⟩
  | 39 => ⟨S16384, .i1⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S_, .f32⟩
  | 50 => ⟨S_, .f32⟩
  | 51 => ⟨S_, .f32⟩
  | 52 => ⟨S_, .f32⟩
  | 53 => ⟨S_, .f32⟩
  | 54 => ⟨S16384, .f32⟩
  | 55 => ⟨S16384, .f32⟩
  | 56 => ⟨S_, .f32⟩
  | 57 => ⟨S16384, .f32⟩
  | 58 => ⟨S16384, .f32⟩
  | 59 => ⟨S16384, .f32⟩
  | 60 => ⟨S16384, .f32⟩
  | 61 => ⟨S16384, .i1⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S_, .f32⟩
  | 72 => ⟨S_, .f32⟩
  | 73 => ⟨S_, .f32⟩
  | 74 => ⟨S_, .f32⟩
  | 75 => ⟨S_, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_c_0 : Ref sig .tc := ⟨.hbm, 29, rfl⟩
abbrev main_v15 : Ref sig .tc := ⟨.hbm, 30, rfl⟩
abbrev main_call1_call0_c : Ref sig .tc := ⟨.hbm, 31, rfl⟩
abbrev main_call1_call0_v0 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_call2_call0_c : Ref sig .tc := ⟨.hbm, 47, rfl⟩
abbrev main_call2_call0_v0 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_call3_c : Ref sig .tc := ⟨.hbm, 53, rfl⟩
abbrev main_call3_v0 : Ref sig .tc := ⟨.hbm, 54, rfl⟩
abbrev main_call3_v1 : Ref sig .tc := ⟨.hbm, 55, rfl⟩
abbrev main_call3_c_0 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_v5 : Ref sig .tc := ⟨.hbm, 60, rfl⟩
abbrev main_call3_c_1 : Ref sig .tc := ⟨.hbm, 61, rfl⟩
abbrev main_call3_c_2 : Ref sig .tc := ⟨.hbm, 62, rfl⟩
abbrev main_call3_v6 : Ref sig .tc := ⟨.hbm, 63, rfl⟩
abbrev main_call3_v7 : Ref sig .tc := ⟨.hbm, 64, rfl⟩
abbrev main_call3_v8 : Ref sig .tc := ⟨.hbm, 65, rfl⟩
abbrev main_call3_v9 : Ref sig .tc := ⟨.hbm, 66, rfl⟩
abbrev main_call3_v10 : Ref sig .tc := ⟨.hbm, 67, rfl⟩
abbrev main_call3_v11 : Ref sig .tc := ⟨.hbm, 68, rfl⟩
abbrev main_call3_c_3 : Ref sig .tc := ⟨.hbm, 69, rfl⟩
abbrev main_call3_v12 : Ref sig .tc := ⟨.hbm, 70, rfl⟩
abbrev main_call3_v13 : Ref sig .tc := ⟨.hbm, 71, rfl⟩
abbrev main_call3_v14 : Ref sig .tc := ⟨.hbm, 72, rfl⟩
abbrev main_call3_cst : Ref sig .tc := ⟨.hbm, 73, rfl⟩
abbrev main_call3_v15 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_call4_v0 : Ref sig .tc := ⟨.hbm, 79, rfl⟩
abbrev main_call4_v1 : Ref sig .tc := ⟨.hbm, 80, rfl⟩
abbrev main_v33 : Ref sig .tc := ⟨.hbm, 81, rfl⟩
abbrev main_c_6 : Ref sig .tc := ⟨.hbm, 82, rfl⟩
abbrev main_v34 : Ref sig .tc := ⟨.hbm, 83, rfl⟩
abbrev main_c_7 : Ref sig .tc := ⟨.hbm, 84, rfl⟩
abbrev main_v35 : Ref sig .tc := ⟨.hbm, 85, rfl⟩
abbrev main_call5_call0_c : Ref sig .tc := ⟨.hbm, 86, rfl⟩
abbrev main_call5_call0_v0 : Ref sig .tc := ⟨.hbm, 87, rfl⟩
abbrev main_v36 : Ref sig .tc := ⟨.hbm, 88, rfl⟩
abbrev main_c_8 : Ref sig .tc := ⟨.hbm, 89, rfl⟩
abbrev main_v37 : Ref sig .tc := ⟨.hbm, 90, rfl⟩
abbrev main_c_9 : Ref sig .tc := ⟨.hbm, 91, rfl⟩
abbrev main_v38 : Ref sig .tc := ⟨.hbm, 92, rfl⟩
abbrev main_v39 : Ref sig .tc := ⟨.hbm, 93, rfl⟩
abbrev main_c_10 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_c_11 : Ref sig .tc := ⟨.hbm, 99, rfl⟩
abbrev main_v44 : Ref sig .tc := ⟨.hbm, 100, rfl⟩
abbrev main_v45 : Ref sig .tc := ⟨.hbm, 101, rfl⟩
abbrev main_call6_call0_c : Ref sig .tc := ⟨.hbm, 102, rfl⟩
abbrev main_call6_call0_v0 : Ref sig .tc := ⟨.hbm, 103, rfl⟩
abbrev main_v46 : Ref sig .tc := ⟨.hbm, 104, rfl⟩
abbrev main_c_12 : Ref sig .tc := ⟨.hbm, 105, rfl⟩
abbrev main_v47 : Ref sig .tc := ⟨.hbm, 106, rfl⟩
abbrev main_v48 : Ref sig .tc := ⟨.hbm, 107, rfl⟩
abbrev main_call7_c : Ref sig .tc := ⟨.hbm, 108, rfl⟩
abbrev main_call7_v0 : Ref sig .tc := ⟨.hbm, 109, rfl⟩
abbrev main_call7_v1 : Ref sig .tc := ⟨.hbm, 110, rfl⟩
abbrev main_call7_c_0 : Ref sig .tc := ⟨.hbm, 111, rfl⟩
abbrev main_call7_v2 : Ref sig .tc := ⟨.hbm, 112, rfl⟩
abbrev main_call7_v3 : Ref sig .tc := ⟨.hbm, 113, rfl⟩
abbrev main_call7_v4 : Ref sig .tc := ⟨.hbm, 114, rfl⟩
abbrev main_call7_v5 : Ref sig .tc := ⟨.hbm, 115, rfl⟩
abbrev main_call7_c_1 : Ref sig .tc := ⟨.hbm, 116, rfl⟩
abbrev main_call7_c_2 : Ref sig .tc := ⟨.hbm, 117, rfl⟩
abbrev main_call7_v6 : Ref sig .tc := ⟨.hbm, 118, rfl⟩
abbrev main_call7_v7 : Ref sig .tc := ⟨.hbm, 119, rfl⟩
abbrev main_call7_v8 : Ref sig .tc := ⟨.hbm, 120, rfl⟩
abbrev main_call7_v9 : Ref sig .tc := ⟨.hbm, 121, rfl⟩
abbrev main_call7_v10 : Ref sig .tc := ⟨.hbm, 122, rfl⟩
abbrev main_call7_v11 : Ref sig .tc := ⟨.hbm, 123, rfl⟩
abbrev main_call7_c_3 : Ref sig .tc := ⟨.hbm, 124, rfl⟩
abbrev main_call7_v12 : Ref sig .tc := ⟨.hbm, 125, rfl⟩
abbrev main_call7_v13 : Ref sig .tc := ⟨.hbm, 126, rfl⟩
abbrev main_call7_v14 : Ref sig .tc := ⟨.hbm, 127, rfl⟩
abbrev main_call7_cst : Ref sig .tc := ⟨.hbm, 128, rfl⟩
abbrev main_call7_v15 : Ref sig .tc := ⟨.hbm, 129, rfl⟩
abbrev main_v49 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_v53 : Ref sig .tc := ⟨.hbm, 134, rfl⟩
abbrev main_cst_13 : Ref sig .tc := ⟨.hbm, 135, rfl⟩
abbrev main_v54 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_v61 : Ref sig .tc := ⟨.hbm, 143, rfl⟩
abbrev main_v62 : Ref sig .tc := ⟨.hbm, 144, rfl⟩
abbrev main_v63 : Ref sig .tc := ⟨.hbm, 145, rfl⟩
abbrev main_cst_14 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_cst_15 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_cst_16 : Ref sig .tc := ⟨.hbm, 159, rfl⟩
abbrev main_v75 : Ref sig .tc := ⟨.hbm, 160, rfl⟩
abbrev main_call8_v0 : Ref sig .tc := ⟨.hbm, 161, rfl⟩
abbrev main_call8_call0_cst : Ref sig .tc := ⟨.hbm, 162, rfl⟩
abbrev main_call8_call0_v0 : Ref sig .tc := ⟨.hbm, 163, rfl⟩
abbrev main_call8_call0_v1 : Ref sig .tc := ⟨.hbm, 164, rfl⟩
abbrev main_call8_call0_v2 : Ref sig .tc := ⟨.hbm, 165, rfl⟩
abbrev main_call8_call0_v3 : Ref sig .tc := ⟨.hbm, 166, rfl⟩
abbrev main_call8_call0_v4 : Ref sig .tc := ⟨.hbm, 167, rfl⟩
abbrev main_call8_call0_v5 : Ref sig .tc := ⟨.hbm, 168, rfl⟩
abbrev main_call8_call0_v6 : Ref sig .tc := ⟨.hbm, 169, rfl⟩
abbrev main_call8_call0_v7 : Ref sig .tc := ⟨.hbm, 170, rfl⟩
abbrev main_call8_call0_v8 : Ref sig .tc := ⟨.hbm, 171, rfl⟩
abbrev main_call8_call0_v9 : Ref sig .tc := ⟨.hbm, 172, rfl⟩
abbrev main_call8_call0_v10 : Ref sig .tc := ⟨.hbm, 173, rfl⟩
abbrev main_call8_call0_v11 : Ref sig .tc := ⟨.hbm, 174, rfl⟩
abbrev main_call8_v1 : Ref sig .tc := ⟨.hbm, 175, rfl⟩
abbrev main_v76 : Ref sig .tc := ⟨.hbm, 176, rfl⟩
abbrev main_cst_17 : Ref sig .tc := ⟨.hbm, 177, rfl⟩
abbrev main_v77 : Ref sig .tc := ⟨.hbm, 178, rfl⟩
abbrev main_cst_18 : Ref sig .tc := ⟨.hbm, 179, rfl⟩
abbrev main_v78 : Ref sig .tc := ⟨.hbm, 180, rfl⟩
abbrev main_v79 : Ref sig .tc := ⟨.hbm, 181, rfl⟩
abbrev main_v80 : Ref sig .tc := ⟨.hbm, 182, rfl⟩
abbrev main_call9_v0 : Ref sig .tc := ⟨.hbm, 183, rfl⟩
abbrev main_call9_call0_cst : Ref sig .tc := ⟨.hbm, 184, rfl⟩
abbrev main_call9_call0_v0 : Ref sig .tc := ⟨.hbm, 185, rfl⟩
abbrev main_call9_call0_v1 : Ref sig .tc := ⟨.hbm, 186, rfl⟩
abbrev main_call9_call0_v2 : Ref sig .tc := ⟨.hbm, 187, rfl⟩
abbrev main_call9_call0_v3 : Ref sig .tc := ⟨.hbm, 188, rfl⟩
abbrev main_call9_call0_v4 : Ref sig .tc := ⟨.hbm, 189, rfl⟩
abbrev main_call9_call0_v5 : Ref sig .tc := ⟨.hbm, 190, rfl⟩
abbrev main_call9_call0_v6 : Ref sig .tc := ⟨.hbm, 191, rfl⟩
abbrev main_call9_call0_v7 : Ref sig .tc := ⟨.hbm, 192, rfl⟩
abbrev main_call9_call0_v8 : Ref sig .tc := ⟨.hbm, 193, rfl⟩
abbrev main_call9_call0_v9 : Ref sig .tc := ⟨.hbm, 194, rfl⟩
abbrev main_call9_call0_v10 : Ref sig .tc := ⟨.hbm, 195, rfl⟩
abbrev main_call9_call0_v11 : Ref sig .tc := ⟨.hbm, 196, rfl⟩
abbrev main_call9_v1 : Ref sig .tc := ⟨.hbm, 197, rfl⟩
abbrev main_v81 : Ref sig .tc := ⟨.hbm, 198, rfl⟩
abbrev main_cst_19 : Ref sig .tc := ⟨.hbm, 199, rfl⟩
abbrev main_v82 : Ref sig .tc := ⟨.hbm, 200, rfl⟩
abbrev main_cst_20 : Ref sig .tc := ⟨.hbm, 201, rfl⟩
abbrev main_v83 : Ref sig .tc := ⟨.hbm, 202, rfl⟩
abbrev main_v84 : Ref sig .tc := ⟨.hbm, 203, rfl⟩

abbrev nD : Nat := 1
abbrev τ : Topo := Topo.v7x

variable {F : FTy → Type} [FloatOps F]
-- ==== Proof.Scores.lean ====
/-
  The loss in plain sums over the extended reals: hidden units, embeddings, the two ways of bracketing a score, and the
  log-sigmoid. No program is mentioned here; the modules on the kernel and on the reference meet at these definitions.
-/
module

public import Idealize.ShloMosaic.PureOps.Ideal
public import Idealize.ShloMosaic.Lib.Pointwise

@[expose] public section

set_option maxRecDepth 16384

noncomputable section

namespace Cert.Scores

open Idealize.ShloMosaic

/-- Hidden unit `k` of a row `t`: the row times column `k` of `W1`, cut off at zero. -/
def hid (t : Fin 128 → EReal) (W1 : Fin 128 → Fin 128 → EReal) (k : Fin 128) : EReal :=
  max (∑ d, t d * W1 d k) 0

/-- Entry `z` of a row's embedding, with zero biases. -/
def emb (t : Fin 128 → EReal) (W1 : Fin 128 → Fin 128 → EReal) (W2 : Fin 128 → Fin 64 → EReal) (z : Fin 64) : EReal :=
  ∑ k, hid t W1 k * W2 k z

/-- The score as the kernel brackets it: `W2` and `Wd` are multiplied first. -/
def scoreK (x t : Fin 128 → EReal) (W1 : Fin 128 → Fin 128 → EReal) (W2 : Fin 128 → Fin 64 → EReal)
    (Wd : Fin 64 → Fin 64 → EReal) : EReal :=
  ∑ z, emb x W1 W2 z * ∑ k, hid t W1 k * ∑ j, W2 k j * Wd j z

/-- The score as the reference brackets it: the embedding is formed first, then multiplied by `Wd`. -/
def scoreR (x t : Fin 128 → EReal) (W1 : Fin 128 → Fin 128 → EReal) (W2 : Fin 128 → Fin 64 → EReal)
    (Wd : Fin 64 → Fin 64 → EReal) : EReal :=
  ∑ z, emb x W1 W2 z * ∑ j, emb t W1 W2 j * Wd j z

/-- The logarithm of the logistic function, as the kernel computes it. -/
def ls (s : EReal) : EReal := min s 0 - Ideal.log1p (Ideal.exp (0 - max s (-s)))

/-- A sum over 16384 rows, taken as 4 blocks of 32 by 128 rows. -/
theorem sum_rows (f : Fin 16384 → EReal) :
    ∑ r, f r = ∑ t : Fin 4, ∑ a : Fin 32, ∑ b : Fin 128, f ⟨t.val * 4096 + (a.val * 128 + b.val), by omega⟩ := by
  rw [Fin.sum_univ_tiles 4 4096 rfl f]
  exact Finset.sum_congr rfl fun t _ => Fin.sum_univ_tiles 32 128 rfl fun k : Fin 4096 => f ⟨t.val * 4096 + k.val, by omega⟩

/-- Two sums over the rows, taken together block by block. -/
theorem sum_rows_two (f g : Fin 16384 → EReal) :
    (∑ r, f r) + ∑ r, g r
      = ((∑ a : Fin 32, ∑ b : Fin 128, f ⟨(0 : Fin 4).val * 4096 + (a.val * 128 + b.val), by omega⟩) + ∑ a : Fin 32, ∑ b : Fin 128, g ⟨(0 : Fin 4).val * 4096 + (a.val * 128 + b.val), by omega⟩)
        + ((∑ a : Fin 32, ∑ b : Fin 128, f ⟨(1 : Fin 4).val * 4096 + (a.val * 128 + b.val), by omega⟩) + ∑ a : Fin 32, ∑ b : Fin 128, g ⟨(1 : Fin 4).val * 4096 + (a.val * 128 + b.val), by omega⟩)
        + ((∑ a : Fin 32, ∑ b : Fin 128, f ⟨(2 : Fin 4).val * 4096 + (a.val * 128 + b.val), by omega⟩) + ∑ a : Fin 32, ∑ b : Fin 128, g ⟨(2 : Fin 4).val * 4096 + (a.val * 128 + b.val), by omega⟩)
        + ((∑ a : Fin 32, ∑ b : Fin 128, f ⟨(3 : Fin 4).val * 4096 + (a.val * 128 + b.val), by omega⟩) + ∑ a : Fin 32, ∑ b : Fin 128, g ⟨(3 : Fin 4).val * 4096 + (a.val * 128 + b.val), by omega⟩) := by
  have h4 : ∀ F G : Fin 4 → EReal, (∑ t, F t) + ∑ t, G t = (F 0 + G 0) + (F 1 + G 1) + (F 2 + G 2) + (F 3 + G 3) := by
    intro F G
    rw [← Finset.sum_add_distrib, Fin.sum_univ_four]
  exact (congrArg₂ (· + ·) (sum_rows f) (sum_rows g)).trans (h4 _ _)

/-- A finite sum of reals, taken in the extended reals. -/
theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

/-- The two ways of bracketing a score agree when the row, `W1`, `W2` and `Wd` are finite; the anchor's row is arbitrary. -/
theorem scoreR_eq (x t : Fin 128 → EReal) (W1 : Fin 128 → Fin 128 → EReal) (W2 : Fin 128 → Fin 64 → EReal)
    (Wd : Fin 64 → Fin 64 → EReal) (ht : ∀ d, ∃ r : ℝ, t d = r) (h1 : ∀ d k, ∃ r : ℝ, W1 d k = r)
    (h2 : ∀ k j, ∃ r : ℝ, W2 k j = r) (hd : ∀ j z, ∃ r : ℝ, Wd j z = r) : scoreR x t W1 W2 Wd = scoreK x t W1 W2 Wd := by
  choose t' ht using ht
  choose W1' h1 using h1
  choose W2' h2 using h2
  choose Wd' hd using hd
  have hh : ∀ k, hid t W1 k = ((max (∑ d, t' d * W1' d k) 0 : ℝ) : EReal) := by
    intro k
    unfold hid
    have e : (∑ d, t d * W1 d k) = ((∑ d, t' d * W1' d k : ℝ) : EReal) := by
      rw [coe_sum]
      exact Finset.sum_congr rfl fun d _ => by rw [ht, h1, EReal.coe_mul]
    rw [e]
    exact (EReal.coe_strictMono.monotone.map_max (a := ∑ d, t' d * W1' d k) (b := (0 : ℝ))).symm
  unfold scoreR scoreK
  refine Finset.sum_congr rfl fun z _ => congrArg (emb x W1 W2 z * ·) ?_
  have e1 : ∀ j, emb t W1 W2 j * Wd j z = (((∑ k, max (∑ d, t' d * W1' d k) 0 * W2' k j) * Wd' j z : ℝ) : EReal) := by
    intro j
    unfold emb
    rw [EReal.coe_mul, coe_sum, hd]
    refine congrArg (· * _) (Finset.sum_congr rfl fun k _ => ?_)
    rw [hh, h2, EReal.coe_mul]
  have e2 : ∀ k, hid t W1 k * (∑ j, W2 k j * Wd j z) = ((max (∑ d, t' d * W1' d k) 0 * ∑ j, W2' k j * Wd' j z : ℝ) : EReal) := by
    intro k
    rw [EReal.coe_mul, coe_sum, hh]
    refine congrArg (_ * ·) (Finset.sum_congr rfl fun j _ => ?_)
    rw [h2, hd, EReal.coe_mul]
  rw [Finset.sum_congr rfl fun j _ => e1 j, Finset.sum_congr rfl fun k _ => e2 k, ← coe_sum, ← coe_sum]
  refine congrArg _ ?_
  simp only [Finset.sum_mul, Finset.mul_sum]
  rw [Finset.sum_comm]
  exact Finset.sum_congr rfl fun k _ => Finset.sum_congr rfl fun j _ => mul_assoc _ _ _

/-- The second term of a log-sigmoid is never negative. -/
theorem log1p_exp_nonneg (a : EReal) : 0 ≤ Ideal.log1p (Ideal.exp a) := by
  have hl : ∀ r : ℝ, 0 ≤ r → (0 : EReal) ≤ Ideal.log1p (r : EReal) := by
    intro r hr
    have e : Ideal.log1p (r : EReal) = ((Real.log (1 + r) : ℝ) : EReal) := by
      show Ideal.log (((1 : ℝ) : EReal) + (r : EReal)) = _
      rw [← EReal.coe_add]
      exact if_neg (by linarith)
    rw [e]
    exact EReal.coe_nonneg.2 (Real.log_nonneg (by linarith))
  induction a with
  | bot => exact hl 0 le_rfl
  | top => exact le_top
  | coe r => exact hl (Real.exp r) (Real.exp_pos r).le

/-- A log-sigmoid is never positive. -/
theorem ls_nonpos (s : EReal) : ls s ≤ 0 := by
  unfold ls
  exact EReal.sub_nonpos.2 ((min_le_right _ _).trans (log1p_exp_nonneg _))

/-- The reference's softplus at the score's opposite is the log-sigmoid's opposite. -/
theorem neg_softplus (s : EReal) :
    -(max (-s) 0 + Ideal.log1p (Ideal.exp (-max (-s) (- -s)))) = ls s := by
  have hb := log1p_exp_nonneg (-max (-s) (- -s))
  have e : -max (-s) 0 = min s 0 := by
    rcases le_total s 0 with h | h
    · rw [max_eq_left (by rw [← neg_zero]; exact EReal.neg_le_neg_iff.2 h), min_eq_left h, neg_neg]
    · rw [max_eq_right (by rw [← neg_zero]; exact EReal.neg_le_neg_iff.2 h), min_eq_right h, neg_zero]
  rw [EReal.neg_add (Or.inl (ne_of_gt (lt_of_lt_of_le EReal.bot_lt_zero (le_max_right _ _))))
    (Or.inr (ne_of_gt (lt_of_lt_of_le EReal.bot_lt_zero hb))), e]
  unfold ls
  rw [neg_neg, max_comm (-s) s, zero_sub]

/-- Negating and dividing the joint total is negating and dividing the two totals apart. -/
theorem split_loss (f g : Fin 16384 → EReal) (c : ℝ) (hc : 0 < c) :
    Ideal.div (0 - ((∑ r, ls (f r)) + ∑ r, ls (g r))) c = -Ideal.div (∑ r, ls (f r)) c - Ideal.div (∑ r, ls (g r)) c := by
  have hf : (∑ r, ls (f r)) ≤ 0 := Finset.sum_nonpos fun r _ => ls_nonpos _
  have hg : (∑ r, ls (g r)) ≤ 0 := Finset.sum_nonpos fun r _ => ls_nonpos _
  generalize (∑ r, ls (f r)) = a at *
  generalize (∑ r, ls (g r)) = b at *
  have ha : a ≠ ⊤ := ne_of_lt (lt_of_le_of_lt hf EReal.zero_lt_top)
  have hb : b ≠ ⊤ := ne_of_lt (lt_of_le_of_lt hg EReal.zero_lt_top)
  rw [Ideal.div_coe hc.ne', Ideal.div_coe hc.ne', Ideal.div_coe hc.ne', zero_sub, EReal.neg_add (Or.inr hb) (Or.inl ha), sub_eq_add_neg, sub_eq_add_neg,
    EReal.right_distrib_of_nonneg (by rw [← neg_zero]; exact EReal.neg_le_neg_iff.2 hf) (by rw [← neg_zero]; exact EReal.neg_le_neg_iff.2 hg), EReal.neg_mul, EReal.neg_mul]

end Cert.Scores

end
-- ==== Proof.Payloads.lean ====
/-
  What the kernel's body computes from the blocks it reads, in the plain sums of `Scores`.
-/
module

public import proofs.«01_k».proof.Proof.Gen.KernelIdeal.Skeleton
public import proofs.«01_k».proof.Proof.Scores
public import Idealize.ShloMosaic.Lib.Pointwise

@[expose] public section

set_option maxRecDepth 16384

noncomputable section

namespace Cert.KernelIdeal.Payloads

open Idealize.ShloMosaic Idealize.ShloMosaic.TcCoe Idealize.SL.Sem
open Cert.KernelIdeal Cert.KernelIdeal.Gen Cert.Scores

/-- The block's positive scores: row `128 a + b` of the block at place `(a, b)`. -/
theorem pay6_at (W1 : FVec Ideal S128x128 .f32) (W2 : FVec Ideal S128x64 .f32) (Wd : FVec Ideal S64x64 .f32)
    (x t : FVec Ideal S4096x128 .f32) (a : Fin 32) (b : Fin 128) :
    k0_pay6 (F := Ideal) W1 W2 Wd x t (ix3 (0 : Fin 1) a b)
      = scoreK (fun d => x (ix2 ⟨a.val * 128 + b.val, by omega⟩ d)) (fun d => t (ix2 ⟨a.val * 128 + b.val, by omega⟩ d))
          (fun d k => W1 (ix2 d k)) (fun k j => W2 (ix2 k j)) (fun j z => Wd (ix2 j z)) := by
  pointwise [k0_pay6, k0_pay3, k0_pay2, k0_pay5]
  rfl

/-- The block's negative scores, likewise. -/
theorem pay8_at (W1 : FVec Ideal S128x128 .f32) (W2 : FVec Ideal S128x64 .f32) (Wd : FVec Ideal S64x64 .f32)
    (x t : FVec Ideal S4096x128 .f32) (a : Fin 32) (b : Fin 128) :
    k0_pay8 (F := Ideal) (k0_pay3 (F := Ideal) W1 W2 x) (k0_pay4 (F := Ideal) W1 W2 Wd t) (k0_pay5 (F := Ideal)) (ix3 (0 : Fin 1) a b)
      = scoreK (fun d => x (ix2 ⟨a.val * 128 + b.val, by omega⟩ d)) (fun d => t (ix2 ⟨a.val * 128 + b.val, by omega⟩ d))
          (fun d k => W1 (ix2 d k)) (fun k j => W2 (ix2 k j)) (fun j z => Wd (ix2 j z)) := by
  pointwise [k0_pay8, k0_pay3, k0_pay4, k0_pay2, k0_pay5]
  rfl

/-- What one block adds to the running total. -/
def part (W1 : FVec Ideal S128x128 .f32) (W2 : FVec Ideal S128x64 .f32) (Wd : FVec Ideal S64x64 .f32)
    (x p n : FVec Ideal S4096x128 .f32) : EReal :=
  (∑ a : Fin 32, ∑ b : Fin 128, ls (scoreK (fun d => x (ix2 ⟨a.val * 128 + b.val, by omega⟩ d)) (fun d => p (ix2 ⟨a.val * 128 + b.val, by omega⟩ d))
          (fun d k => W1 (ix2 d k)) (fun k j => W2 (ix2 k j)) (fun j z => Wd (ix2 j z))))
    + ∑ a : Fin 32, ∑ b : Fin 128, ls (0 - scoreK (fun d => x (ix2 ⟨a.val * 128 + b.val, by omega⟩ d)) (fun d => n (ix2 ⟨a.val * 128 + b.val, by omega⟩ d))
          (fun d k => W1 (ix2 d k)) (fun k j => W2 (ix2 k j)) (fun j z => Wd (ix2 j z)))

/-- The total after a block is the total before it and the block's part. -/
theorem pay9_at (W1 : FVec Ideal S128x128 .f32) (W2 : FVec Ideal S128x64 .f32) (Wd : FVec Ideal S64x64 .f32)
    (x p n : FVec Ideal S4096x128 .f32) (acc : EReal) :
    k0_pay9 (F := Ideal) (k0_pay7 (F := Ideal) (k0_pay6 (F := Ideal) W1 W2 Wd x p))
        (k0_pay8 (F := Ideal) (k0_pay3 (F := Ideal) W1 W2 x) (k0_pay4 (F := Ideal) W1 W2 Wd n) (k0_pay5 (F := Ideal))) acc
      = acc + part W1 W2 Wd x p n := by
  have h : ∀ u v : FVec Ideal S1x32x128 .f32, k0_pay9 (F := Ideal) (k0_pay7 (F := Ideal) u) v acc
      = acc + ((∑ a : Fin 32, ∑ b : Fin 128, ls (u (ix3 (0 : Fin 1) a b))) + ∑ a : Fin 32, ∑ b : Fin 128, ls (0 - v (ix3 (0 : Fin 1) a b))) := by
    intro u v
    pointwise [k0_pay9, k0_pay7]
    rfl
  rw [h]
  unfold part
  refine congrArg (acc + ·) (congrArg₂ (· + ·) ?_ ?_)
  · exact Finset.sum_congr rfl fun a _ => Finset.sum_congr rfl fun b _ => congrArg ls (pay6_at W1 W2 Wd x p a b)
  · exact Finset.sum_congr rfl fun a _ => Finset.sum_congr rfl fun b _ => congrArg (fun s => ls (0 - s)) (pay8_at W1 W2 Wd x n a b)

/-- The last step: the total's opposite, divided by the number of rows. -/
theorem pay1_at (acc : EReal) :
    k0_pay1 (F := Ideal) acc = Ideal.div (0 - acc) (Ideal.ofBits FTy.f32 0x46800000#32) := by
  pointwise [k0_pay1]

end Cert.KernelIdeal.Payloads

end
-- ==== Proof.Final.lean ====
/-
  The idealized kernel's result: the output cell after each of the four blocks of rows, and the scalar the program returns, in its
  arguments.
-/
module

public import proofs.«01_k».proof.Proof.Gen.KernelIdeal.Frame
public import proofs.«01_k».proof.Proof.Payloads
public import Idealize.ShloMosaic.Lib.Pipeline.ValueKit

@[expose] public section

set_option maxRecDepth 16384

noncomputable section

namespace Cert.KernelIdeal.Final

open Idealize.ShloMosaic Idealize.ShloMosaic.TcCoe Idealize.SL.Sem
open Cert.KernelIdeal Cert.KernelIdeal.Gen Cert.KernelIdeal.Payloads Cert.Scores

variable (m : (ℓ : Loc nD τ sig) → Buf (Elt Ideal) ℓ)

/-- After the first block the output cell holds that block's part. -/
theorem out_A (c : Dev nD) (t : Fin cfg0.N) (h0 : t.val % 4 = 0) (h1 : ¬t.val % 4 = 3) (j : S1x1.Idx) :
    outsAt0 m c t.val t.isLt j = part (iblk m c 3 t) (iblk m c 5 t) (iblk m c 7 t) (iblk m c 0 t) (iblk m c 1 t) (iblk m c 2 t) := by
  rw [outsAt0_A m c t h0 h1]; frame_out
  rw [View.readCov_cons_toLoadRect, View.readCov_cons_toLoadRect]
  refine (pay9_at _ _ _ _ _ _ _).trans ?_
  have hz : (FloatOps.ofBits (F := Ideal) FTy.f32 0#32 : EReal) = 0 := Ideal.ofBits_zero .f32
  exact (congrArg (· + part _ _ _ _ _ _) hz).trans (zero_add _)

/-- After a middle block the output cell holds what it held plus the block's part. -/
theorem out_B (c : Dev nD) (t : Fin cfg0.N) (h0 : ¬t.val % 4 = 0) (h1 : ¬t.val % 4 = 3) (j : S1x1.Idx) :
    outsAt0 m c t.val t.isLt j = outsAt0 m c (t.val - 1) (Nat.lt_of_le_of_lt (Nat.sub_le _ _) t.isLt) (ix2 0 0)
      + part (iblk m c 3 t) (iblk m c 5 t) (iblk m c 7 t) (iblk m c 0 t) (iblk m c 1 t) (iblk m c 2 t) := by
  rw [outsAt0_B m c t h0 h1]; frame_out
  rw [View.readCov_cons_toLoadRect, View.readCov_cons_toLoadRect]
  refine (pay9_at _ _ _ _ _ _ _).trans ?_
  exact congrArg (fun i => outsAt0 m c (t.val - 1) _ i + part _ _ _ _ _ _) (funext fun a => match a with | ⟨0, _⟩ => rfl | ⟨1, _⟩ => rfl)

/-- After the last block: the total's opposite over the number of rows. -/
theorem out_C (c : Dev nD) (t : Fin cfg0.N) (h0 : ¬t.val % 4 = 0) (h1 : t.val % 4 = 3) (j : S1x1.Idx) :
    outsAt0 m c t.val t.isLt j = Ideal.div (0 - (outsAt0 m c (t.val - 1) (Nat.lt_of_le_of_lt (Nat.sub_le _ _) t.isLt) (ix2 0 0)
      + part (iblk m c 3 t) (iblk m c 5 t) (iblk m c 7 t) (iblk m c 0 t) (iblk m c 1 t) (iblk m c 2 t))) (Ideal.ofBits FTy.f32 0x46800000#32) := by
  rw [outsAt0_C m c t h0 h1]; frame_out
  rw [View.readCov_cons_toLoadRect, View.readCov_cons_toLoadRect]
  refine (pay1_at _).trans (congrArg (fun e => Ideal.div (0 - e) _) ?_)
  refine (pay9_at _ _ _ _ _ _ _).trans ?_
  exact congrArg (fun i => outsAt0 m c (t.val - 1) _ i + part _ _ _ _ _ _) (funext fun a => match a with | ⟨0, _⟩ => rfl | ⟨1, _⟩ => rfl)

/-- What the block at point `t` adds, in the arrays the kernel is launched on. -/
def step (c : Dev nD) (t : Fin cfg0.N) : EReal :=
  part (iblk m c 3 t) (iblk m c 5 t) (iblk m c 7 t) (iblk m c 0 t) (iblk m c 1 t) (iblk m c 2 t)

/-- The kernel's output cell at the end: minus the sum of the four parts, over the number of rows. -/
theorem cell (c : Dev nD) : (dats m 0 c).arrAt 8 (cfgs 0).N
    = fun _ => Ideal.div (0 - (step m c t0_0 + step m c t0_1 + step m c t0_2 + step m c t0_3)) (Ideal.ofBits FTy.f32 0x46800000#32) := by
  refine (dats m 0 c).arrAt_eq_of_after_last 8 t0_3 (by decide +kernel) _ fun j => ?_
  blk_simp
  rw [after0_8]
  refine (out_C m c t0_3 (by decide) (by decide) _).trans ?_
  refine congrArg (fun e => Ideal.div (0 - (e + step m c t0_3)) _) ?_
  refine (out_B m c t0_2 (by decide) (by decide) _).trans (congrArg (· + step m c t0_2) ?_)
  refine (out_B m c t0_1 (by decide) (by decide) _).trans (congrArg (· + step m c t0_1) ?_)
  exact out_A m c t0_0 (by decide) (by decide) _

/-- At point `t` the three inputs' windows are on block `t` of the rows, and the weights' windows on the whole arrays. -/
theorem idx : ∀ t : Fin cfg0.N, win0_0.index t = ![t.val, 0] ∧ win0_1.index t = ![t.val, 0] ∧ win0_2.index t = ![t.val, 0]
    ∧ win0_3.index t = ![0, 0] ∧ win0_5.index t = ![0, 0] ∧ win0_7.index t = ![0, 0] :=
  (by decide +kernel : ∀ t : Fin grid0.N, _)

/-- The score of row `r`, as the kernel brackets it. -/
def scoreAt (W1 : FVec Ideal S128x128 .f32) (W2 : FVec Ideal S128x64 .f32) (Wd : FVec Ideal S64x64 .f32)
    (x t : FVec Ideal S16384x128 .f32) (r : Fin 16384) : EReal :=
  scoreK (fun d => x (ix2 r d)) (fun d => t (ix2 r d)) (fun d k => W1 (ix2 d k)) (fun k j => W2 (ix2 k j)) (fun j z => Wd (ix2 j z))

/-- The log-sigmoid of row `r`'s positive score. -/
def posLs (c : Dev nD) (r : Fin 16384) : EReal :=
  ls (scoreAt (m ((c : Thread nD τ).loc main_arg5)) (m ((c : Thread nD τ).loc main_arg7)) (m ((c : Thread nD τ).loc main_arg9))
    (m ((c : Thread nD τ).loc main_arg0)) (m ((c : Thread nD τ).loc main_arg1)) r)

/-- The log-sigmoid of the opposite of row `r`'s negative score. -/
def negLs (c : Dev nD) (r : Fin 16384) : EReal :=
  ls (0 - scoreAt (m ((c : Thread nD τ).loc main_arg5)) (m ((c : Thread nD τ).loc main_arg7)) (m ((c : Thread nD τ).loc main_arg9))
    (m ((c : Thread nD τ).loc main_arg0)) (m ((c : Thread nD τ).loc main_arg2)) r)

/-- A block's part, read in the whole arrays: rows `4096 t` to `4096 t + 4095`. -/
theorem step_eq (c : Dev nD) (t : Fin cfg0.N) (n : Fin 4) (hn : t.val = n.val) : step m c t
    = (∑ a : Fin 32, ∑ b : Fin 128, posLs m c ⟨n.val * 4096 + (a.val * 128 + b.val), by omega⟩)
      + ∑ a : Fin 32, ∑ b : Fin 128, negLs m c ⟨n.val * 4096 + (a.val * 128 + b.val), by omega⟩ := by
  have h3 : (iblk m c 3 t : FVec Ideal S128x128 .f32) = m ((c : Thread nD τ).loc main_arg5) := by
    funext i
    blk_point [iblk, V, idx t]
  have h5 : (iblk m c 5 t : FVec Ideal S128x64 .f32) = m ((c : Thread nD τ).loc main_arg7) := by
    funext i
    blk_point [iblk, V, idx t]
  have h7 : (iblk m c 7 t : FVec Ideal S64x64 .f32) = m ((c : Thread nD τ).loc main_arg9) := by
    funext i
    blk_point [iblk, V, idx t]
  have h0 : ∀ (a : Fin 32) (b : Fin 128) (d : Fin 128), (iblk m c 0 t : FVec Ideal S4096x128 .f32) (ix2 ⟨a.val * 128 + b.val, by omega⟩ d)
      = (m ((c : Thread nD τ).loc main_arg0) : FVec Ideal S16384x128 .f32) (ix2 ⟨n.val * 4096 + (a.val * 128 + b.val), by omega⟩ d) := by
    intro a b d
    blk_point [iblk, V, idx t, hn]
  have h1 : ∀ (a : Fin 32) (b : Fin 128) (d : Fin 128), (iblk m c 1 t : FVec Ideal S4096x128 .f32) (ix2 ⟨a.val * 128 + b.val, by omega⟩ d)
      = (m ((c : Thread nD τ).loc main_arg1) : FVec Ideal S16384x128 .f32) (ix2 ⟨n.val * 4096 + (a.val * 128 + b.val), by omega⟩ d) := by
    intro a b d
    blk_point [iblk, V, idx t, hn]
  have h2 : ∀ (a : Fin 32) (b : Fin 128) (d : Fin 128), (iblk m c 2 t : FVec Ideal S4096x128 .f32) (ix2 ⟨a.val * 128 + b.val, by omega⟩ d)
      = (m ((c : Thread nD τ).loc main_arg2) : FVec Ideal S16384x128 .f32) (ix2 ⟨n.val * 4096 + (a.val * 128 + b.val), by omega⟩ d) := by
    intro a b d
    blk_point [iblk, V, idx t, hn]
  unfold step
  rw [h3, h5, h7]
  unfold part posLs negLs scoreAt
  simp only [h0, h1, h2]

/-- The scalar the program returns is the output cell. -/
theorem result (c : Dev nD) : Pipeline.afterTail₀ cfgs (dats m) 0 (V0 m) [hostOps1] c main_v3
    = fun _ => (dats m 0 c).arrAt 8 (cfgs 0).N (ix2 0 0) := by
  unfold Pipeline.afterTail₀
  show StableHlo.after [StableHlo.reshape main_v2 main_v3 (rfl : (.f32 : EltTy) = .f32) shapeCasts_S1x1_S_] _ _ = _
  after_results
  have e : Pipeline.withArrays (cfgs 0).spec c (V0 m c) (fun w => (dats m 0 c).arrAt w (cfgs 0).N) (Proc.devRef .tc main_v2)
      = (dats m 0 c).arrAt 8 (cfgs 0).N :=
    Pipeline.withArrays_arr spec0 (by decide) c (V0 m c) (fun w => (dats m 0 c).arrAt w (cfgs 0).N) 8
  rw [e]
  rw [cell]
  rfl

/-- The program's result: minus the sum over all rows of both log-sigmoids, over the number of rows. -/
def lossK (W1 : FVec Ideal S128x128 .f32) (W2 : FVec Ideal S128x64 .f32) (Wd : FVec Ideal S64x64 .f32)
    (x p n : FVec Ideal S16384x128 .f32) : EReal :=
  Ideal.div (0 - ((∑ r, ls (scoreAt W1 W2 Wd x p r)) + ∑ r, ls (0 - scoreAt W1 W2 Wd x n r))) (Ideal.ofBits FTy.f32 0x46800000#32)

/-- The scalar the program returns, in its arguments. -/
theorem value (c : Dev nD) : Pipeline.afterTail₀ cfgs (dats m) 0 (V0 m) [hostOps1] c main_v3
    = fun _ => lossK (m ((c : Thread nD τ).loc main_arg5)) (m ((c : Thread nD τ).loc main_arg7)) (m ((c : Thread nD τ).loc main_arg9))
        (m ((c : Thread nD τ).loc main_arg0)) (m ((c : Thread nD τ).loc main_arg1)) (m ((c : Thread nD τ).loc main_arg2)) := by
  rw [result, cell]
  funext i
  unfold lossK
  refine congrArg (fun e => Ideal.div (0 - e) _) ?_
  rw [step_eq m c t0_0 0 rfl, step_eq m c t0_1 1 rfl, step_eq m c t0_2 2 rfl, step_eq m c t0_3 3 rfl]
  exact (sum_rows_two (posLs m c) (negLs m c)).symm

/-- Every run of the kernel ends with that result and its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v3)
        = fun _ => lossK (m ((c : Thread nD τ).loc main_arg5)) (m ((c : Thread nD τ).loc main_arg7)) (m ((c : Thread nD τ).loc main_arg9))
            (m ((c : Thread nD τ).loc main_arg0)) (m ((c : Thread nD τ).loc main_arg1)) (m ((c : Thread nD τ).loc main_arg2))) :=
  (θ_run defs _ _).mono (fun _ h c => ((h c).2 main_v3 (Pipeline.mem_restRefs_of main_v3 (by decide) (by decide))).trans (value m c)) (run_main m ρ)

end Cert.KernelIdeal.Final

end
-- ==== Proof.Repeat.lean ====
/-
  `jnp.repeat` of the anchors, as the reference prints it, when every anchor is repeated exactly once.

  The reference turns the start indices of an edge list into counts (each start less the one before), the counts into the
  position at which each anchor's rows begin (roll by one, clear the first entry, running sum), marks those positions with a
  scatter of ones, sums the marks, and takes the anchor rows at the running sum less one. With every count 1 the positions
  are `0, 1, 2, …`, each position is marked once, and the rows are taken in place: the whole pipeline is the identity.
-/
module

public import proofs.«01_k».proof.Proof.Gen.ReferenceIdeal
public import Idealize.ShloMosaic.Lib.Routing.Ops
public import Idealize.ShloMosaic.Lib.Routing.OpsOne
public import Idealize.ShloMosaic.Lib.ReduceAll
public import Idealize.ShloMosaic.Lib.Pointwise
public import Idealize.ShloMosaic.PureOps.Ideal

@[expose] public section

set_option maxRecDepth 16384

noncomputable section

namespace Cert.ReferenceIdeal.Repeat

open Cert.ReferenceIdeal Cert.ReferenceIdeal.Gen Idealize.ShloMosaic.ValueIdx Idealize.ShloMosaic.Routing
open Idealize.ShloMosaic hiding ix1 ix2 eq_ix1 eq_ix2

/-- The number of rows of each anchor: each start index less the one before it. -/
def counts (s : IVec S16385 32) : IVec S16384 32 :=
  subi (extractStridedSlice S16384 ![1] s slices_S16385_S16384_1) (extractStridedSlice S16384 ![0] s slices_S16385_S16384_0)

/-- The position at which each anchor's rows begin: the running sum of the counts, moved up by one place. -/
def begins (n : IVec S16384 32) : IVec S16384 32 :=
  Host.reduceWindow IntOp.addi ![16384] ![1] ![16383] ![0] (Host.scatter scatter_S16384_S1_S__n_0_0_0 (fun _ b => b) (concatenate S16384 0 [⟨S1, (extractStridedSlice S1 ![16383] n slices_S16384_S1_16383)⟩, ⟨S16383, (extractStridedSlice S16383 ![0] n slices_S16384_S16383_0)⟩] concatenates_S1_S16383_S16384_d0) (broadcastInDim S1 ![] bcast_S_S1 (constantI S_ 32 0#32)) (constantI S_ 32 0#32)) (broadcastInDim S_ ![] bcast_S_S_ (constantI S_ 32 0#32)) reduceWindows_S16384_S16384_w16384s1p16383_0 h_S_

/-- A position below zero counted from the end, as `jnp` indexing has it. -/
def wrap (n : IVec S16384 32) : IVec S16384x1 32 :=
  broadcastInDim S16384x1 ![0] bcast_S16384_S16384x1_0 (select (cmpi .slt n (broadcastInDim S16384 ![] bcast_S_S16384 (constantI S_ 32 0#32))) (addi n (broadcastInDim S16384 ![] bcast_S_S16384 (constantI S_ 32 16384#32))) n)

/-- The anchor each row belongs to: the number of anchors that begin at the row or before it, less one. -/
def anchors (b : IVec S16384 32) : IVec S16384 32 :=
  subi (Host.reduceWindow IntOp.addi ![16384] ![1] ![16383] ![0] (Host.scatter scatter_S16384_S16384x1_S16384_n_0_0_1 IntOp.addi (broadcastInDim S16384 ![] bcast_S_S16384 (constantI S_ 32 0#32)) (wrap b) (broadcastInDim S16384 ![] bcast_S_S16384 (constantI S_ 32 1#32))) (broadcastInDim S_ ![] bcast_S_S_ (constantI S_ 32 0#32)) reduceWindows_S16384_S16384_w16384s1p16383_0 h_S_) (broadcastInDim S16384 ![] bcast_S_S16384 (constantI S_ 32 1#32))

/-- The rows of `x` at the given positions, and a filler where a position is out of range. -/
def rows (i : IVec S16384x1 32) (x : FVec Ideal S16384x64 .f32) : FVec Ideal S16384x64 .f32 :=
  select (broadcastInDim S16384x64 ![0] bcast_S16384_S16384x64_0 (Host.reduce IntOp.andi (andi (cmpi .sge i (broadcastInDim S16384x1 ![] bcast_S_S16384x1 (constantI S_ 32 0#32))) (cmpi .sle i (broadcastInDim S16384x1 ![0, 1] bcast_S1x1_S16384x1_0_1 (broadcastInDim S1x1 ![1] bcast_S1_S1x1_1 (constantI S1 32 16383#32))))) (constantI S_ 1 1#1) reducesTo_S16384x1_S16384_d1 h_S_)) (Host.gather gather_S16384x64_S16384x1_S16384x64_1_0_n_n_0_1_164 x i) (broadcastInDim S16384x64 ![] bcast_S_S16384x64 (constant S_ .f32 0x7FC00000#32))

/-- A number below 16384, read as a signed word, is itself. -/
theorem word_toInt (n : ℕ) (h : n < 16384) : (BitVec.ofNat 32 n).toInt = n :=
  StableHlo.Predicate.toInt_ofNat_small _ (by omega)

/-- As a signed word it is not below zero. -/
theorem word_slt (n : ℕ) (h : n < 16384) : IntOp.cmpi .slt (BitVec.ofNat 32 n) 0#32 = 0#1 := by
  have : (BitVec.ofNat 32 n).slt 0#32 = false := by
    rw [BitVec.slt_eq_decide, word_toInt n h]; simp
  show BitVec.ofBool _ = _
  rw [this]; rfl

/-- It is at or above zero. -/
theorem word_sge (n : ℕ) (h : n < 16384) : IntOp.cmpi .sge (BitVec.ofNat 32 n) 0#32 = 1#1 := by
  have : (0#32).sle (BitVec.ofNat 32 n) = true := by
    rw [BitVec.sle_eq_decide, word_toInt n h]; simp
  show BitVec.ofBool _ = _
  rw [this]; rfl

/-- It is at most 16383. -/
theorem word_sle (n : ℕ) (h : n < 16384) : IntOp.cmpi .sle (BitVec.ofNat 32 n) 16383#32 = 1#1 := by
  have : (BitVec.ofNat 32 n).sle 16383#32 = true := by
    rw [BitVec.sle_eq_decide, word_toInt n h, show (16383#32).toInt = ((16383 : ℕ) : Int) from by decide]
    exact decide_eq_true (by omega)
  show BitVec.ofBool _ = _
  rw [this]; rfl

/-- The running sum of `0, 1, 1, …` is `0, 1, 2, …`. -/
theorem sum_steps (n : ℕ) : ((List.range (n + 1)).map fun i => if i = 0 then 0 else 1).sum = n := by
  induction n with
  | zero => rfl
  | succ n ih => rw [List.range_succ, List.map_append, List.sum_append, ih]; simp

/-- One number below `n` equals a given one. -/
theorem count_eq_one (n x : ℕ) (h : x < n) : Nat.count (fun i => i = x) n = 1 := by
  rw [Nat.count_eq_card_filter_range, Finset.card_eq_one]
  refine ⟨x, ?_⟩
  ext i
  rw [Finset.mem_filter, Finset.mem_range, Finset.mem_singleton]
  omega

/-- With every count one, the anchors begin at `0, 1, 2, …`. -/
theorem begins_one (n : IVec S16384 32) (hn : ∀ i, n i = 1#32) (j : Fin 16384) :
    begins n (ix1 j) = BitVec.ofNat 32 j.val := by
  obtain rfl : n = fun _ => 1#32 := funext hn
  unfold begins
  rw [cumsum1 (by norm_num) _ (fun i => if i = 0 then 0 else 1) (fun i => ?_) _ rfl]
  · rw [sum_steps]
  · rw [scatter_one _ rfl rfl _ _ _ 0 (by norm_num) rfl i]
    have hc : ∀ e, concatenate S16384 0 [⟨S1, (extractStridedSlice S1 ![16383] (fun _ => 1#32 : IVec S16384 32) slices_S16384_S1_16383)⟩, ⟨S16383, (extractStridedSlice S16383 ![0] (fun _ => 1#32 : IVec S16384 32) slices_S16384_S16383_0)⟩] concatenates_S1_S16383_S16384_d0 e = 1#32 := by
      intro e
      rw [concatenate_pair_apply]
      split <;> rfl
    rw [hc]
    by_cases h : i = 0
    · subst h; rfl
    · have h' : i.val ≠ 0 := fun e => h (Fin.ext e)
      simp only [h, h', if_false]

/-- Positions from zero on are not moved by `wrap`. -/
theorem wrap_of (n : IVec S16384 32) (hn : ∀ i : Fin 16384, n (ix1 i) = BitVec.ofNat 32 i.val) (i : Fin 16384) :
    wrap n (ix2 i (0 : Fin 1)) = BitVec.ofNat 32 i.val := by
  have h : wrap n (ix2 i (0 : Fin 1)) = Scalar.select (IntOp.cmpi .slt (n (ix1 i)) 0#32) (n (ix1 i) + 16384#32) (n (ix1 i)) := by
    have e : ∀ x : IVec S16384 32, broadcastInDim S16384x1 ![0] bcast_S16384_S16384x1_0 x (ix2 i (0 : Fin 1)) = x (ix1 i) := by
      intro x
      refine congrArg x (funext fun a => ?_)
      obtain rfl : a = 0 := Subsingleton.elim _ _
      rfl
    unfold wrap
    rw [e]
    rfl
  rw [h, hn, word_slt _ i.isLt]
  rfl

/-- When anchor `i` begins at row `i`, row `i` belongs to anchor `i`. -/
theorem anchors_of (b : IVec S16384 32) (hb : ∀ i : Fin 16384, b (ix1 i) = BitVec.ofNat 32 i.val) (j : Fin 16384) :
    anchors b (ix1 j) = BitVec.ofNat 32 j.val := by
  unfold anchors
  show Host.reduceWindow IntOp.addi _ _ _ _ _ _ _ _ (ix1 j) - 1#32 = _
  rw [cumsum1 (by norm_num) _ (fun _ => 1) (fun i => ?_) _ rfl]
  · rw [List.map_const', List.sum_replicate, List.length_range, smul_eq_mul, mul_one]
    apply BitVec.eq_of_toNat_eq
    have := j.isLt
    simp only [BitVec.toNat_sub, BitVec.toNat_ofNat]
    omega
  · refine (scatter_hist scatter_S16384_S16384x1_S16384_n_0_0_1 rfl rfl rfl _ (fun _ => rfl) _ _ (fun _ => rfl) id (fun i => wrap_of b hb i) (fun i => by have := i.isLt; show i.val < _; omega) i).trans ?_
    exact congrArg (BitVec.ofNat 32) (count_eq_one 16384 i.val i.isLt)

/-- Taking row `i` at position `i` gives the array back. -/
theorem rows_of (i : IVec S16384x1 32) (hi : ∀ r : Fin 16384, i (ix2 r (0 : Fin 1)) = BitVec.ofNat 32 r.val) (x : FVec Ideal S16384x64 .f32) :
    rows i x = x := by
  funext k
  rw [eq_ix2 k]
  have hm : ∀ j, Host.reduce IntOp.andi (andi (cmpi .sge i (broadcastInDim S16384x1 ![] bcast_S_S16384x1 (constantI S_ 32 0#32))) (cmpi .sle i (broadcastInDim S16384x1 ![0, 1] bcast_S1x1_S16384x1_0_1 (broadcastInDim S1x1 ![1] bcast_S1_S1x1_1 (constantI S1 32 16383#32))))) (constantI S_ 1 1#1) reducesTo_S16384x1_S16384_d1 h_S_ j = 1#1 := by
    intro j
    refine Host.reduce_andi_one _ _ _ _ _ rfl fun e => ?_
    obtain ⟨r, rfl⟩ : ∃ r : Fin 16384, e = ix2 r (0 : Fin 1) :=
      ⟨e 0, (eq_ix2 e).trans (congrArg (ix2 _) (Subsingleton.elim (α := Fin 1) _ _))⟩
    show (IntOp.cmpi .sge (i (ix2 r (0 : Fin 1))) 0#32) &&& (IntOp.cmpi .sle (i (ix2 r (0 : Fin 1))) 16383#32) = 1#1
    rw [hi, word_sge _ r.isLt, word_sle _ r.isLt]
    rfl
  unfold rows
  rw [funext hm]
  refine Eq.trans (b := Host.gather gather_S16384x64_S16384x1_S16384x64_1_0_n_n_0_1_164 x i (ix2 (k 0 : Fin 16384) (k 1 : Fin 64))) ?_ ?_
  · rfl
  exact gather_row _ rfl rfl rfl rfl rfl x i (k 0 : Fin 16384) (k 1 : Fin 64) (k 0 : Fin 16384) (hi _) (by norm_num)

end Cert.ReferenceIdeal.Repeat

end
-- ==== Proof.RefValue.lean ====
/-
  The reference's result, read in the plain sums of `Scores`, when every anchor has one row in both edge lists and the biases
  are zero.
-/
module

public import proofs.«01_k».proof.Proof.Gen.ReferenceIdeal.Run
public import proofs.«01_k».proof.Proof.Repeat
public import proofs.«01_k».proof.Proof.Scores
public import Idealize.ShloMosaic.Lib.Pointwise

@[expose] public section

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Value Cert.Scores

/-- The embedding of every row of `t`. -/
def embed (t : FVec Ideal S16384x128 .f32) (W1 : FVec Ideal S128x128 .f32) (b1 : FVec Ideal S128 .f32)
    (W2 : FVec Ideal S128x64 .f32) (b2 : FVec Ideal S64 .f32) : FVec Ideal S16384x64 .f32 :=
  addf (Host.dotGeneral dot_S16384x128_S128x64_S16384x64_1_0_0_1_n_n none (maximumf (addf (Host.dotGeneral dot_S16384x128_S128x128_S16384x128_1_0_0_1_n_n none t W1) (broadcastInDim S16384x128 ![0, 1] bcast_S1x128_S16384x128_0_1 (broadcastInDim S1x128 ![1] bcast_S128_S1x128_1 b1))) (broadcastInDim S16384x128 ![] bcast_S_S16384x128 (constant S_ .f32 0x00000000#32))) W2) (broadcastInDim S16384x64 ![0, 1] bcast_S1x64_S16384x64_0_1 (broadcastInDim S1x64 ![1] bcast_S64_S1x64_1 b2))

/-- The score of every row: an anchor's embedding against the other embedding times `Wd`. -/
def scores (hx e : FVec Ideal S16384x64 .f32) (Wd : FVec Ideal S64x64 .f32) : FVec Ideal S16384 .f32 :=
  Host.reduceAdd (mulf hx (Host.dotGeneral dot_S16384x64_S64x64_S16384x64_1_0_0_1_n_n none e Wd)) (constant S_ .f32 0x00000000#32) reducesTo_S16384x64_S16384_d1 h_S_

/-- The logarithm of `1 + exp u`, as the reference computes it. -/
def softplus (u : FVec Ideal S16384 .f32) : FVec Ideal S16384 .f32 :=
  select (cmpf .une (subf u (broadcastInDim S16384 ![] bcast_S_S16384 (constant S_ .f32 0x00000000#32))) (subf u (broadcastInDim S16384 ![] bcast_S_S16384 (constant S_ .f32 0x00000000#32)))) (addf u (broadcastInDim S16384 ![] bcast_S_S16384 (constant S_ .f32 0x00000000#32))) (addf (maximumf u (broadcastInDim S16384 ![] bcast_S_S16384 (constant S_ .f32 0x00000000#32))) (Host.log1p (Host.exp (Host.negf (Host.absf (subf u (broadcastInDim S16384 ![] bcast_S_S16384 (constant S_ .f32 0x00000000#32))))))))

/-- The mean of a log-sigmoid over the rows, at the opposite `u` of its argument. -/
def meanLs (u : FVec Ideal S16384 .f32) : FVec Ideal S_ .f32 :=
  Host.divf (Host.reduceAdd (Host.negf (softplus u)) (constant S_ .f32 0x00000000#32) reducesTo_S16384_S_d0 h_S_) (constant S_ .f32 0x46800000#32)

/-- The reference's result in its arguments. -/
def loss (x p n : FVec Ideal S16384x128 .f32) (sp sn : IVec S16385 32) (W1 : FVec Ideal S128x128 .f32) (b1 : FVec Ideal S128 .f32)
    (W2 : FVec Ideal S128x64 .f32) (b2 : FVec Ideal S64 .f32) (Wd : FVec Ideal S64x64 .f32) : FVec Ideal S_ .f32 :=
  subf (Host.negf (meanLs (Host.negf (scores (Repeat.rows (Repeat.wrap (Repeat.anchors (Repeat.begins (Repeat.counts sp)))) (embed x W1 b1 W2 b2)) (embed p W1 b1 W2 b2) Wd))))
    (meanLs (Host.negf (Host.negf (scores (Repeat.rows (Repeat.wrap (Repeat.anchors (Repeat.begins (Repeat.counts sn)))) (embed x W1 b1 W2 b2)) (embed n W1 b1 W2 b2) Wd))))

/-- With zero biases an embedding is the plain one. -/
theorem embed_at (t : FVec Ideal S16384x128 .f32) (W1 : FVec Ideal S128x128 .f32) (b1 : FVec Ideal S128 .f32)
    (W2 : FVec Ideal S128x64 .f32) (b2 : FVec Ideal S64 .f32) (h1 : ∀ k : Fin 128, b1 (ix1 k) = 0) (h2 : ∀ k : Fin 64, b2 (ix1 k) = 0)
    (r : Fin 16384) (z : Fin 64) :
    embed t W1 b1 W2 b2 (ix2 r z) = emb (fun d => t (ix2 r d)) (fun d k => W1 (ix2 d k)) (fun k j => W2 (ix2 k j)) z := by
  pointwise [embed, h1, h2]
  rfl

/-- A score is a plain sum of products. -/
theorem scores_at (hx e : FVec Ideal S16384x64 .f32) (Wd : FVec Ideal S64x64 .f32) (r : Fin 16384) :
    scores hx e Wd (ix1 r) = ∑ z : Fin 64, hx (ix2 r z) * ∑ j : Fin 64, e (ix2 r j) * Wd (ix2 j z) := by
  pointwise [scores]

/-- The guard against a value unequal to itself never fires. -/
theorem softplus_at (u : FVec Ideal S16384 .f32) (r : Fin 16384) :
    softplus u (ix1 r) = max (u (ix1 r)) 0 + Ideal.log1p (Ideal.exp (-max (u (ix1 r)) (-u (ix1 r)))) := by
  pointwise [softplus]
  exact if_neg fun h => h rfl

/-- A mean is a plain sum over the rows, divided by their number. -/
theorem meanLs_at (u : FVec Ideal S16384 .f32) (i : S_.Idx) :
    meanLs u i = Ideal.div (∑ r : Fin 16384, -softplus u (ix1 r)) (Ideal.ofBits .f32 0x46800000#32) := by
  pointwise [meanLs]

/-- The mean at the opposites of scores `s` is the mean of their log-sigmoids. -/
theorem meanLs_neg (u s : FVec Ideal S16384 .f32) (hu : ∀ r : Fin 16384, u (ix1 r) = -s (ix1 r)) (i : S_.Idx) :
    meanLs u i = Ideal.div (∑ r : Fin 16384, ls (s (ix1 r))) (Ideal.ofBits .f32 0x46800000#32) := by
  have e : ∀ r : Fin 16384, -(softplus u (ix1 r) : EReal) = ls (s (ix1 r)) := by
    intro r
    rw [softplus_at, hu]
    exact neg_softplus _
  rw [meanLs_at, Finset.sum_congr rfl fun r _ => e r]

/-- The score of row `r`, as the reference brackets it. -/
def scoreAt (W1 : FVec Ideal S128x128 .f32) (W2 : FVec Ideal S128x64 .f32) (Wd : FVec Ideal S64x64 .f32)
    (x t : FVec Ideal S16384x128 .f32) (r : Fin 16384) : EReal :=
  scoreR (fun d => x (ix2 r d)) (fun d => t (ix2 r d)) (fun d k => W1 (ix2 d k)) (fun k j => W2 (ix2 k j)) (fun j z => Wd (ix2 j z))

/-- The scores of repeated anchors, when every anchor has one row and the biases are zero. -/
theorem scores_eq (x t : FVec Ideal S16384x128 .f32) (s : IVec S16385 32) (W1 : FVec Ideal S128x128 .f32) (b1 : FVec Ideal S128 .f32)
    (W2 : FVec Ideal S128x64 .f32) (b2 : FVec Ideal S64 .f32) (Wd : FVec Ideal S64x64 .f32) (hs : ∀ i, Repeat.counts s i = 1#32)
    (h1 : ∀ k : Fin 128, b1 (ix1 k) = 0) (h2 : ∀ k : Fin 64, b2 (ix1 k) = 0) (r : Fin 16384) :
    scores (Repeat.rows (Repeat.wrap (Repeat.anchors (Repeat.begins (Repeat.counts s)))) (embed x W1 b1 W2 b2)) (embed t W1 b1 W2 b2) Wd (ix1 r)
      = scoreAt W1 W2 Wd x t r := by
  rw [Repeat.rows_of _ (Repeat.wrap_of _ (Repeat.anchors_of _ (Repeat.begins_one _ hs))), scores_at]
  unfold scoreAt scoreR
  refine Finset.sum_congr rfl fun z _ => ?_
  rw [embed_at x W1 b1 W2 b2 h1 h2]
  refine congrArg (_ * ·) (Finset.sum_congr rfl fun j _ => ?_)
  rw [embed_at t W1 b1 W2 b2 h1 h2]

/-- The reference's result in plain sums. -/
theorem loss_eq (x p n : FVec Ideal S16384x128 .f32) (sp sn : IVec S16385 32) (W1 : FVec Ideal S128x128 .f32) (b1 : FVec Ideal S128 .f32)
    (W2 : FVec Ideal S128x64 .f32) (b2 : FVec Ideal S64 .f32) (Wd : FVec Ideal S64x64 .f32) (hp : ∀ i, Repeat.counts sp i = 1#32)
    (hn : ∀ i, Repeat.counts sn i = 1#32) (h1 : ∀ k : Fin 128, b1 (ix1 k) = 0) (h2 : ∀ k : Fin 64, b2 (ix1 k) = 0) (i : S_.Idx) :
    loss x p n sp sn W1 b1 W2 b2 Wd i
      = -Ideal.div (∑ r, ls (scoreAt W1 W2 Wd x p r)) (Ideal.ofBits .f32 0x46800000#32)
        - Ideal.div (∑ r, ls (-scoreAt W1 W2 Wd x n r)) (Ideal.ofBits .f32 0x46800000#32) := by
  unfold loss
  generalize hu : scores (Repeat.rows (Repeat.wrap (Repeat.anchors (Repeat.begins (Repeat.counts sp)))) (embed x W1 b1 W2 b2)) (embed p W1 b1 W2 b2) Wd = u
  generalize hv : scores (Repeat.rows (Repeat.wrap (Repeat.anchors (Repeat.begins (Repeat.counts sn)))) (embed x W1 b1 W2 b2)) (embed n W1 b1 W2 b2) Wd = v
  have eu : ∀ r : Fin 16384, u (ix1 r) = scoreAt W1 W2 Wd x p r := fun r => by rw [← hu, scores_eq x p sp W1 b1 W2 b2 Wd hp h1 h2]
  have ev : ∀ r : Fin 16384, v (ix1 r) = scoreAt W1 W2 Wd x n r := fun r => by rw [← hv, scores_eq x n sn W1 b1 W2 b2 Wd hn h1 h2]
  have hneg : ∀ (w : FVec Ideal S16384 .f32) k, Host.negf w k = -w k := fun _ _ => rfl
  have hsub : ∀ A B : FVec Ideal S_ .f32, subf (Host.negf A) B i = -A i - B i := fun _ _ => rfl
  rw [hsub, meanLs_neg (Host.negf u) u (fun r => hneg u _), meanLs_neg (Host.negf (Host.negf v)) (Host.negf v) (fun r => hneg _ _)]
  simp only [hneg, eu, ev]

variable (m : (ℓ : Loc nD τ sig) → Buf (Elt Ideal) ℓ)

/-- Every run of the reference ends with `loss` of its arguments. -/
theorem run_loss (ρ : Dev nD → PrngReg) :
    θ_run defs (onTc (τ := τ) (main (F := Ideal))) ⟨m, fun _ => 0, ρ⟩ fun r => ∀ c : Dev nD,
      r.2.mem ((c.tc : Thread nD τ).loc main_v84) = loss (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) :=
  (θ_run defs _ _).mono (fun _ h c => (h c).1.trans rfl) (run m ρ)

end Cert.ReferenceIdeal.RefValue

end
-- ==== Proof.Deployed.lean ====
/-
  The precondition `deployed`, read: every anchor has one row in each edge list, the biases are zero, and the other embeddings'
  inputs and the weights are real numbers.
-/
module

public import proofs.«01_k».proof.Defs
public import proofs.«01_k».proof.Proof.Repeat
public import Idealize.ShloMosaic.Lib.Pointwise

@[expose] public section

set_option maxRecDepth 16384

noncomputable section

namespace Cert.Deployed

open Idealize.ShloMosaic
open Cert.Pre_deployed

/-- The side conditions of the precondition's operations. -/
instance facts : Cert.Pre_deployed.Facts where
  slices_S16385_S16384_1 := by decide
  slices_S16385_S16384_0 := by decide
  bcast_S_S16384 := by decide
  bcast_S_S128 := by decide
  bcast_S_S64 := by decide
  bcast_S_S16384x128 := by decide
  bcast_S_S128x128 := by decide
  bcast_S_S128x64 := by decide
  bcast_S_S64x64 := by decide

/-- A bit of a comparison that is one says that the comparison holds. -/
theorem of_bit {p : Prop} [Decidable p] (h : BitVec.ofBool (decide p) = 1#1) : p := by
  by_contra hp
  rw [decide_eq_false hp] at h
  exact absurd h (by decide)

/-- A value whose absolute value is less than infinity is a real number. -/
theorem real_of_abs {e : EReal} (h : max e (-e) < ⊤) : ∃ r : ℝ, e = r := by
  induction e with
  | bot => exact absurd h (by simp)
  | coe r => exact ⟨r, rfl⟩
  | top => exact absurd h (by simp)

/-- The bit pattern of infinity is infinity. -/
theorem inf_bits : Ideal.ofBits .f32 0x7F800000#32 = (⊤ : EReal) := by
  simp [Ideal.ofBits, Ideal.ieee]

/-- An array whose every absolute value compares less than infinity holds real numbers. -/
theorem real_of_finite {s : Shape} (t : FVec Ideal s .f32) (hb : S_.BroadcastsInDim s (![] : Fin 0 → Fin s.rank))
    (h : cmpf .olt (Host.absf t) (broadcastInDim s ![] hb (constant S_ .f32 0x7F800000#32)) = fun _ => 1#1) (i : s.Idx) :
    ∃ r : ℝ, t i = r := by
  have h' : BitVec.ofBool (decide ((max (t i) (-t i) : EReal) < Ideal.ofBits .f32 0x7F800000#32)) = 1#1 := congrFun h i
  have h2 := of_bit h'
  rw [inf_bits] at h2
  exact real_of_abs h2

/-- An array whose every entry compares equal to zero is zero. -/
theorem zero_of_eq {s : Shape} (t : FVec Ideal s .f32) (hb : S_.BroadcastsInDim s (![] : Fin 0 → Fin s.rank))
    (h : cmpf .oeq t (broadcastInDim s ![] hb (constant S_ .f32 0x00000000#32)) = fun _ => 1#1) (i : s.Idx) : t i = 0 := by
  have h' : BitVec.ofBool (decide ((t i : EReal) = Ideal.ofBits .f32 0x00000000#32)) = 1#1 := congrFun h i
  exact (of_bit h').trans (Ideal.ofBits_zero .f32)

/-- The counts of a list of starting positions are all one when they compare equal to one. -/
theorem counts_of_eq (s : IVec S16385 32)
    (h : cmpi .eq (Cert.ReferenceIdeal.Repeat.counts s) (broadcastInDim S16384 ![] facts.bcast_S_S16384 (constantI S_ 32 1#32)) = fun _ => 1#1)
    (i : S16384.Idx) : Cert.ReferenceIdeal.Repeat.counts s i = 1#32 := by
  have h' : BitVec.ofBool (Cert.ReferenceIdeal.Repeat.counts s i == 1#32) = 1#1 := congrFun h i
  by_contra hne
  rw [beq_eq_false_iff_ne.2 hne] at h'
  exact absurd h' (by decide)

/-- What `deployed` says of ten arrays. -/
theorem read (x p n : FVec Ideal S16384x128 .f32) (sp sn : IVec S16385 32) (W1 : FVec Ideal S128x128 .f32) (b1 : FVec Ideal S128 .f32)
    (W2 : FVec Ideal S128x64 .f32) (b2 : FVec Ideal S64 .f32) (Wd : FVec Ideal S64x64 .f32)
    (h : (fn x p n sp sn W1 b1 W2 b2 Wd).1 = (fun _ => 1#1) ∧ (fn x p n sp sn W1 b1 W2 b2 Wd).2.1 = (fun _ => 1#1)
      ∧ (fn x p n sp sn W1 b1 W2 b2 Wd).2.2.1 = (fun _ => 1#1) ∧ (fn x p n sp sn W1 b1 W2 b2 Wd).2.2.2.1 = (fun _ => 1#1)
      ∧ (fn x p n sp sn W1 b1 W2 b2 Wd).2.2.2.2.1 = (fun _ => 1#1) ∧ (fn x p n sp sn W1 b1 W2 b2 Wd).2.2.2.2.2.1 = (fun _ => 1#1)
      ∧ (fn x p n sp sn W1 b1 W2 b2 Wd).2.2.2.2.2.2.1 = (fun _ => 1#1) ∧ (fn x p n sp sn W1 b1 W2 b2 Wd).2.2.2.2.2.2.2.1 = (fun _ => 1#1)
      ∧ (fn x p n sp sn W1 b1 W2 b2 Wd).2.2.2.2.2.2.2.2 = (fun _ => 1#1)) :
    (∀ i, Cert.ReferenceIdeal.Repeat.counts sp i = 1#32) ∧ (∀ i, Cert.ReferenceIdeal.Repeat.counts sn i = 1#32)
      ∧ (∀ i, b1 i = 0) ∧ (∀ i, b2 i = 0) ∧ (∀ i, ∃ r : ℝ, p i = r) ∧ (∀ i, ∃ r : ℝ, n i = r)
      ∧ (∀ i, ∃ r : ℝ, W1 i = r) ∧ (∀ i, ∃ r : ℝ, W2 i = r) ∧ (∀ i, ∃ r : ℝ, Wd i = r) := by
  obtain ⟨hp, hn, h1, h2, fp, fn', fW1, fW2, fWd⟩ := h
  exact ⟨counts_of_eq sp hp, counts_of_eq sn hn, zero_of_eq b1 facts.bcast_S_S128 h1, zero_of_eq b2 facts.bcast_S_S64 h2,
    real_of_finite p facts.bcast_S_S16384x128 fp, real_of_finite n facts.bcast_S_S16384x128 fn', real_of_finite W1 facts.bcast_S_S128x128 fW1,
    real_of_finite W2 facts.bcast_S_S128x64 fW2, real_of_finite Wd facts.bcast_S_S64x64 fWd⟩

end Cert.Deployed

end
-- ==== Proof.Agree.lean ====
/-
  The kernel's loss is the reference's: under the precondition the two bracketings of a score agree, and one quotient of a sum
  splits into the two means.
-/
module

public import proofs.«01_k».proof.Proof.Final
public import proofs.«01_k».proof.Proof.RefValue
public import proofs.«01_k».proof.Proof.Deployed

@[expose] public section

set_option maxRecDepth 16384

noncomputable section

namespace Cert.Agree

open Idealize.ShloMosaic
open Cert.KernelIdeal Cert.Scores

/-- The bit pattern of the number of rows is that number. -/
theorem rows_bits : Ideal.ofBits .f32 0x46800000#32 = ((16384 : ℝ) : EReal) := by
  simp [Ideal.ofBits, Ideal.ieee, -EReal.coe_mul]
  norm_num

/-- A row's score is the same in both bracketings when the row and the weights are real numbers. -/
theorem score_eq (W1 : FVec Ideal S128x128 .f32) (W2 : FVec Ideal S128x64 .f32) (Wd : FVec Ideal S64x64 .f32)
    (x t : FVec Ideal S16384x128 .f32) (ht : ∀ i, ∃ r : ℝ, t i = r) (h1 : ∀ i, ∃ r : ℝ, W1 i = r) (h2 : ∀ i, ∃ r : ℝ, W2 i = r)
    (hd : ∀ i, ∃ r : ℝ, Wd i = r) (r : Fin 16384) :
    Cert.ReferenceIdeal.RefValue.scoreAt W1 W2 Wd x t r = Cert.KernelIdeal.Final.scoreAt W1 W2 Wd x t r :=
  scoreR_eq _ _ _ _ _ (fun _ => ht _) (fun _ _ => h1 _) (fun _ _ => h2 _) fun _ _ => hd _

/-- The two losses agree on the arrays the precondition admits. -/
theorem loss_eq (x p n : FVec Ideal S16384x128 .f32) (sp sn : IVec S16385 32) (W1 : FVec Ideal S128x128 .f32) (b1 : FVec Ideal S128 .f32)
    (W2 : FVec Ideal S128x64 .f32) (b2 : FVec Ideal S64 .f32) (Wd : FVec Ideal S64x64 .f32)
    (h : (∀ i, Cert.ReferenceIdeal.Repeat.counts sp i = 1#32) ∧ (∀ i, Cert.ReferenceIdeal.Repeat.counts sn i = 1#32)
      ∧ (∀ i, b1 i = 0) ∧ (∀ i, b2 i = 0) ∧ (∀ i, ∃ r : ℝ, p i = r) ∧ (∀ i, ∃ r : ℝ, n i = r)
      ∧ (∀ i, ∃ r : ℝ, W1 i = r) ∧ (∀ i, ∃ r : ℝ, W2 i = r) ∧ (∀ i, ∃ r : ℝ, Wd i = r)) :
    Cert.ReferenceIdeal.RefValue.loss x p n sp sn W1 b1 W2 b2 Wd = fun _ => Cert.KernelIdeal.Final.lossK W1 W2 Wd x p n := by
  obtain ⟨hp, hn, h1, h2, fp, fn, fW1, fW2, fWd⟩ := h
  funext i
  rw [Cert.ReferenceIdeal.RefValue.loss_eq x p n sp sn W1 b1 W2 b2 Wd hp hn (fun _ => h1 _) (fun _ => h2 _) i]
  unfold Cert.KernelIdeal.Final.lossK
  rw [rows_bits, split_loss _ _ 16384 (by norm_num)]
  simp only [score_eq W1 W2 Wd x p fp fW1 fW2 fWd, score_eq W1 W2 Wd x n fn fW1 fW2 fWd, zero_sub]

end Cert.Agree

end
-- ==== Proof.lean ====
/-
  The proof of `Cert.Claim`: the kernel and its idealization run to the end with their arguments unchanged, so does the reference,
  and on the arrays the precondition `deployed` admits the idealized kernel and the reference return the same number.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.RefValue
public import proofs.«01_k».proof.Proof.Deployed
public import proofs.«01_k».proof.Proof.Agree
public import Idealize.ShloMosaic.Adequacy
public import Idealize.ShloMosaic.Lib.Claim
public import Idealize.ShloMosaic.Init

@[expose] public section

noncomputable section

namespace Cert.Proof

open Idealize.ShloMosaic Idealize.SL.Sem

/-- Every run of the reference ends with its arguments unchanged; it declares no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- On the arrays `deployed` admits, the idealized kernel and the reference return the same number. -/
theorem algebraic : Cert.algebraic_KernelIdeal_ReferenceIdeal_pre_deployed (hKernelIdeal := Cert.KernelIdeal.Gen.facts)
    (hReferenceIdeal := Cert.ReferenceIdeal.Gen.facts) (hPre_deployed := Cert.Deployed.facts) := by
  intro m g m' g' hpre hargs
  refine ⟨fun c _ => Cert.KernelIdeal.Final.lossK
      (m ((c.tc : Thread Cert.KernelIdeal.nD Cert.KernelIdeal.τ).loc Cert.KernelIdeal.main_arg5))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c => ⟨h.1 c, h.2 c⟩)
      (θ_run_and (Cert.KernelIdeal.Final.run m g) (Cert.KernelIdeal.Gen.unchanged m g))
  · refine (θ_run Cert.ReferenceIdeal.defs _ _).mono (fun _ h c => ⟨(h.1 c).trans ?_, (h.2 c).2⟩)
      (θ_run_and (Cert.ReferenceIdeal.RefValue.run_loss m' g') (Cert.ReferenceIdeal.Value.run m' g'))
    obtain ⟨a0, a1, a2, a3, a4, a5, a6, a7, a8, a9⟩ := hargs c
    rw [a0, a1, a2, a3, a4, a5, a6, a7, a8, a9]
    exact Cert.Agree.loss_eq _ _ _ _ _ _ _ _ _ _ (Cert.Deployed.read _ _ _ _ _ _ _ _ _ _ (hpre c))

/-- Everything the certificate claims. -/
theorem claim : Cert.Claim :=
  ⟨Cert.Kernel.Gen.facts, Cert.KernelIdeal.Gen.facts, Cert.ReferenceIdeal.Gen.facts, Cert.Deployed.facts,
    fun m g _ => Cert.Kernel.Gen.frame m g, fun m g _ => Cert.KernelIdeal.Gen.frame m g, fun m g _ => Cert.KernelIdeal.Gen.frame m g,
    frame_reference, fun m g _ => frame_reference m g trivial, trivial, algebraic⟩

end Cert.Proof

end
